-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_bm1" .f32 0x3D042108#32 ((1 / 31 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x128x64x64x2 : Shape := ⟨5, ![32, 128, 64, 64, 2]⟩
abbrev S2x2 : Shape := ⟨2, ![2, 2]⟩
abbrev S2 : Shape := ⟨1, ![2]⟩
abbrev S_ : Shape := ⟨0, ![]⟩

class Facts : Prop where
  bcast_S_S32x128x64x64x2 : S_.BroadcastsInDim S32x128x64x64x2 (![] : Fin 0 → Fin S32x128x64x64x2.rank)
  reducesTo_S32x128x64x64x2_S_d0_1_2_3_4 : S32x128x64x64x2.ReducesTo [0, 1, 2, 3, 4] S_
  h_S_ : 0 < S_.numel
  bcast_S_S2x2 : S_.BroadcastsInDim S2x2 (![] : Fin 0 → Fin S2x2.rank)
  reducesTo_S2x2_S_d0_1 : S2x2.ReducesTo [0, 1] S_

variable [Facts]

def fn {F : FTy → Type} [FloatOps F] (main_arg0 : FVec F S32x128x64x64x2 .f32) (main_arg1 : FVec F S2x2 .f32) (main_arg2 : FVec F S2 .f32) : IVec S_ 1 × IVec S_ 1 :=
  let main_v0 : FVec F S32x128x64x64x2 .f32 := Host.absf main_arg0
  let main_cst : FVec F S_ .f32 := constant S_ .f32 0x7F800000#32
  let main_v1 : FVec F S32x128x64x64x2 .f32 := broadcastInDim S32x128x64x64x2 ![] bcast_S_S32x128x64x64x2 main_cst
  let main_v2 : IVec S32x128x64x64x2 1 := cmpf .olt main_v0 main_v1
  let main_c : IVec S_ 1 := constantI S_ 1 1#1
  let main_v3 : IVec S_ 1 := (fun x v => Host.reduce IntOp.andi x v reducesTo_S32x128x64x64x2_S_d0_1_2_3_4 h_S_) main_v2 main_c
  let main_v4 : FVec F S2x2 .f32 := Host.absf main_arg1
  let main_cst_0 : FVec F S_ .f32 := constant S_ .f32 0x7F800000#32
  let main_v5 : FVec F S2x2 .f32 := broadcastInDim S2x2 ![] bcast_S_S2x2 main_cst_0
  let main_v6 : IVec S2x2 1 := cmpf .olt main_v4 main_v5
  let main_c_1 : IVec S_ 1 := constantI S_ 1 1#1
  let main_v7 : IVec S_ 1 := (fun x v => Host.reduce IntOp.andi x v reducesTo_S2x2_S_d0_1 h_S_) main_v6 main_c_1
  (main_v3, main_v7)
-- ==== Kernel.lean ====
abbrev S32x128x64x64x2 : Shape := ⟨5, ![32, 128, 64, 64, 2]⟩
abbrev S2x2 : Shape := ⟨2, ![2, 2]⟩
abbrev S2 : Shape := ⟨1, ![2]⟩
abbrev S32x64x64x2x128 : Shape := ⟨5, ![32, 64, 64, 2, 128]⟩
abbrev S32x8192x128 : Shape := ⟨3, ![32, 8192, 128]⟩
abbrev S_ : Shape := ⟨0, ![]⟩
abbrev S128 : Shape := ⟨1, ![128]⟩
abbrev S1x1 : Shape := ⟨2, ![1, 1]⟩
abbrev S1 : Shape := ⟨1, ![1]⟩
abbrev S1x128 : Shape := ⟨2, ![1, 128]⟩
abbrev S8x128 : Shape := ⟨2, ![8, 128]⟩
abbrev S32x256x128 : Shape := ⟨3, ![32, 256, 128]⟩
abbrev S32x128x128 : Shape := ⟨3, ![32, 128, 128]⟩
abbrev S128x128 : Shape := ⟨2, ![128, 128]⟩
abbrev S1x128x128 : Shape := ⟨3, ![1, 128, 128]⟩

abbrev nBuf : Space → Nat
  | .hbm => 47
  | .vmem => 5
  | .smem => 0
  | _ => 0

abbrev bufTy : (tb : Table) → Fin (tcTables nBuf tb) → BufTy
  | .hbm, ⟨0, _⟩ => ⟨S32x128x64x64x2, .f32⟩
  | .hbm, ⟨1, _⟩ => ⟨S2x2, .f32⟩
  | .hbm, ⟨2, _⟩ => ⟨S2, .f32⟩
  | .hbm, ⟨3, _⟩ => ⟨S32x64x64x2x128, .f32⟩
  | .hbm, ⟨4, _⟩ => ⟨S32x8192x128, .f32⟩
  | .hbm, ⟨5, _⟩ => ⟨S_, .f32⟩
  | .hbm, ⟨6, _⟩ => ⟨S128, .f32⟩
  | .hbm, ⟨7, _⟩ => ⟨S1x1, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S1x1, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S1x1, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S1x1, .f32⟩
  | .hbm, ⟨20, _⟩ => ⟨S_, .f32⟩
  | .hbm, ⟨21, _⟩ => ⟨S128, .f32⟩
  | .hbm, ⟨22, _⟩ => ⟨S128, .f32⟩
  | .hbm, ⟨23, _⟩ => ⟨S1, .f32⟩
  | .hbm, ⟨24, _⟩ => ⟨S_, .f32⟩
  | .hbm, ⟨25, _⟩ => ⟨S128, .f32⟩
  | .hbm, ⟨26, _⟩ => ⟨S128, .f32⟩
  | .hbm, ⟨27, _⟩ => ⟨S1, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S_, .f32⟩
  | .hbm, ⟨32, _⟩ => ⟨S128, .f32⟩
  | .hbm, ⟨33, _⟩ => ⟨S_, .f32⟩
  | .hbm, ⟨34, _⟩ => ⟨S128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S8x128, .f32⟩
  | .hbm, ⟨44, _⟩ => ⟨S32x8192x128, .f32⟩
  | .hbm, ⟨45, _⟩ => ⟨S32x64x64x2x128, .f32⟩
  | .hbm, ⟨46, _⟩ => ⟨S32x128x64x64x2, .f32⟩
  | .local _ .vmem, ⟨0, _⟩ => ⟨S32x256x128, .f32⟩
  | .local _ .vmem, ⟨1, _⟩ => ⟨S32x256x128, .f32⟩
  | .local _ .vmem, ⟨2, _⟩ => ⟨S8x128, .f32⟩
  | .local _ .vmem, ⟨3, _⟩ => ⟨S32x256x128, .f32⟩
  | .local _ .vmem, ⟨4, _⟩ => ⟨S32x256x128, .f32⟩
  | _, _ => ⟨S32x128x64x64x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_v12 : Ref sig .tc := ⟨.hbm, 16, rfl⟩
abbrev main_call0_v13 : Ref sig .tc := ⟨.hbm, 17, rfl⟩
abbrev main_call0_v14 : Ref sig .tc := ⟨.hbm, 18, rfl⟩
abbrev main_call0_v15 : Ref sig .tc := ⟨.hbm, 19, rfl⟩
abbrev main_call0_v16 : Ref sig .tc := ⟨.hbm, 20, rfl⟩
abbrev main_call0_v17 : Ref sig .tc := ⟨.hbm, 21, rfl⟩
abbrev main_call0_v18 : Ref sig .tc := ⟨.hbm, 22, rfl⟩
abbrev main_call0_v19 : Ref sig .tc := ⟨.hbm, 23, rfl⟩
abbrev main_call0_v20 : Ref sig .tc := ⟨.hbm, 24, rfl⟩
abbrev main_call0_v21 : Ref sig .tc := ⟨.hbm, 25, rfl⟩
abbrev main_call0_v22 : Ref sig .tc := ⟨.hbm, 26, rfl⟩
abbrev main_call0_v23 : Ref sig .tc := ⟨.hbm, 27, rfl⟩
abbrev main_call0_v24 : Ref sig .tc := ⟨.hbm, 28, rfl⟩
abbrev main_call0_v25 : Ref sig .tc := ⟨.hbm, 29, rfl⟩
abbrev main_call0_v26 : Ref sig .tc := ⟨.hbm, 30, rfl⟩
abbrev main_call0_cst_0 : Ref sig .tc := ⟨.hbm, 31, rfl⟩
abbrev main_call0_v27 : Ref sig .tc := ⟨.hbm, 32, rfl⟩
abbrev main_call0_cst_1 : Ref sig .tc := ⟨.hbm, 33, rfl⟩
abbrev main_call0_v28 : Ref sig .tc := ⟨.hbm, 34, rfl⟩
abbrev main_call0_v29 : Ref sig .tc := ⟨.hbm, 35, rfl⟩
abbrev main_call0_v30 : Ref sig .tc := ⟨.hbm, 36, rfl⟩
abbrev main_call0_v31 : Ref sig .tc := ⟨.hbm, 37, rfl⟩
abbrev main_call0_v32 : Ref sig .tc := ⟨.hbm, 38, rfl⟩
abbrev main_call0_v33 : Ref sig .tc := ⟨.hbm, 39, rfl⟩
abbrev main_call0_v34 : Ref sig .tc := ⟨.hbm, 40, rfl⟩
abbrev main_call0_v35 : Ref sig .tc := ⟨.hbm, 41, rfl⟩
abbrev main_call0_v36 : Ref sig .tc := ⟨.hbm, 42, rfl⟩
abbrev main_call0_v37 : Ref sig .tc := ⟨.hbm, 43, rfl⟩
abbrev main_call0_v38 : Ref sig .tc := ⟨.hbm, 44, rfl⟩
abbrev main_call0_v39 : Ref sig .tc := ⟨.hbm, 45, rfl⟩
abbrev main_v0 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S32x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "inv_bm1" => some ((1 / 31 : ℝ) : EReal)
  | _ => none
-- ==== ReferenceIdeal.lean ====
abbrev S32x128x64x64x2 : Shape := ⟨5, ![32, 128, 64, 64, 2]⟩
abbrev S2x2 : Shape := ⟨2, ![2, 2]⟩
abbrev S2 : Shape := ⟨1, ![2]⟩
abbrev S32x524288x2 : Shape := ⟨3, ![32, 524288, 2]⟩
abbrev S_ : Shape := ⟨0, ![]⟩
abbrev S524288x2 : Shape := ⟨2, ![524288, 2]⟩
abbrev S1x524288x2 : Shape := ⟨3, ![1, 524288, 2]⟩
abbrev S524288x2x2 : Shape := ⟨3, ![524288, 2, 2]⟩
abbrev S524288x1x1 : Shape := ⟨3, ![524288, 1, 1]⟩
abbrev S524288 : Shape := ⟨1, ![524288]⟩
abbrev S1x2x2 : Shape := ⟨3, ![1, 2, 2]⟩
abbrev S524288x32x2 : Shape := ⟨3, ![524288, 32, 2]⟩
abbrev S1x1x2 : Shape := ⟨3, ![1, 1, 2]⟩

abbrev nBuf : Space → Nat
  | .hbm => 61
  | .vmem => 0
  | .smem => 0
  | _ => 0

abbrev bufTy : (tb : Table) → Fin (tcTables nBuf tb) → BufTy
  | .hbm, ⟨0, _⟩ => ⟨S32x128x64x64x2, .f32⟩
  | .hbm, ⟨1, _⟩ => ⟨S2x2, .f32⟩
  | .hbm, ⟨2, _⟩ => ⟨S2, .f32⟩
  | .hbm, ⟨3, _⟩ => ⟨S32x524288x2, .f32⟩
  | .hbm, ⟨4, _⟩ => ⟨S_, .f32⟩
  | .hbm, ⟨5, _⟩ => ⟨S524288x2, .f32⟩
  | .hbm, ⟨6, _⟩ => ⟨S_, .f32⟩
  | .hbm, ⟨7, _⟩ => ⟨S524288x2, .f32⟩
  | .hbm, ⟨8, _⟩ => ⟨S524288x2, .f32⟩
  | .hbm, ⟨9, _⟩ => ⟨S1x524288x2, .f32⟩
  | .hbm, ⟨10, _⟩ => ⟨S32x524288x2, .f32⟩
  | .hbm, ⟨11, _⟩ => ⟨S32x524288x2, .f32⟩
  | .hbm, ⟨12, _⟩ => ⟨S524288x2x2, .f32⟩
  | .hbm, ⟨13, _⟩ => ⟨S_, .f32⟩
  | .hbm, ⟨14, _⟩ => ⟨S524288x2x2, .f32⟩
  | .hbm, ⟨15, _⟩ => ⟨S524288x2x2, .f32⟩
  | .hbm, ⟨16, _⟩ => ⟨S524288x1x1, .f32⟩
  | .hbm, ⟨17, _⟩ => ⟨S524288, .f32⟩
  | .hbm, ⟨18, _⟩ => ⟨S524288x1x1, .f32⟩
  | .hbm, ⟨19, _⟩ => ⟨S524288, .f32⟩
  | .hbm, ⟨20, _⟩ => ⟨S524288, .f32⟩
  | .hbm, ⟨21, _⟩ => ⟨S524288x1x1, .f32⟩
  | .hbm, ⟨22, _⟩ => ⟨S524288, .f32⟩
  | .hbm, ⟨23, _⟩ => ⟨S524288x1x1, .f32⟩
  | .hbm, ⟨24, _⟩ => ⟨S524288, .f32⟩
  | .hbm, ⟨25, _⟩ => ⟨S524288, .f32⟩
  | .hbm, ⟨26, _⟩ => ⟨S524288x1x1, .f32⟩
  | .hbm, ⟨27, _⟩ => ⟨S524288, .f32⟩
  | .hbm, ⟨28, _⟩ => ⟨S524288x1x1, .f32⟩
  | .hbm, ⟨29, _⟩ => ⟨S524288, .f32⟩
  | .hbm, ⟨30, _⟩ => ⟨S524288, .f32⟩
  | .hbm, ⟨31, _⟩ => ⟨S524288, .f32⟩
  | .hbm, ⟨32, _⟩ => ⟨S524288, .f32⟩
  | .hbm, ⟨33, _⟩ => ⟨S_, .f32⟩
  | .hbm, ⟨34, _⟩ => ⟨S524288, .f32⟩
  | .hbm, ⟨35, _⟩ => ⟨S524288, .f32⟩
  | .hbm, ⟨36, _⟩ => ⟨S524288, .f32⟩
  | .hbm, ⟨37, _⟩ => ⟨S524288, .f32⟩
  | .hbm, ⟨38, _⟩ => ⟨S2x2, .i32⟩
  | .hbm, ⟨39, _⟩ => ⟨S2x2, .i32⟩
  | .hbm, ⟨40, _⟩ => ⟨S_, .i32⟩
  | .hbm, ⟨41, _⟩ => ⟨S2x2, .i32⟩
  | .hbm, ⟨42, _⟩ => ⟨S2x2, .i32⟩
  | .hbm, ⟨43, _⟩ => ⟨S2x2, .i1⟩
  | .hbm, ⟨44, _⟩ => ⟨S2x2, .f32⟩
  | .hbm, ⟨45, _⟩ => ⟨S524288x1x1, .f32⟩
  | .hbm, ⟨46, _⟩ => ⟨S1x2x2, .f32⟩
  | .hbm, ⟨47, _⟩ => ⟨S524288x2x2, .f32⟩
  | .hbm, ⟨48, _⟩ => ⟨S524288x2x2, .f32⟩
  | .hbm, ⟨49, _⟩ => ⟨S524288x2x2, .f32⟩
  | .hbm, ⟨50, _⟩ => ⟨S524288x2x2, .f32⟩
  | .hbm, ⟨51, _⟩ => ⟨S524288x1x1, .f32⟩
  | .hbm, ⟨52, _⟩ => ⟨S524288x2x2, .f32⟩
  | .hbm, ⟨53, _⟩ => ⟨S524288x2x2, .f32⟩
  | .hbm, ⟨54, _⟩ => ⟨S524288x32x2, .f32⟩
  | .hbm, ⟨55, _⟩ => ⟨S32x524288x2, .f32⟩
  | .hbm, ⟨56, _⟩ => ⟨S32x524288x2, .f32⟩
  | .hbm, ⟨57, _⟩ => ⟨S1x1x2, .f32⟩
  | .hbm, ⟨58, _⟩ => ⟨S32x524288x2, .f32⟩
  | .hbm, ⟨59, _⟩ => ⟨S32x524288x2, .f32⟩
  | .hbm, ⟨60, _⟩ => ⟨S32x128x64x64x2, .f32⟩
  | _, _ => ⟨S32x128x64x64x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_c : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩

abbrev nD : Nat := 1
abbrev τ : Topo := Topo.v7x

variable {F : FTy → Type} [FloatOps F]
-- ==== Proof.KernelIdealFrame.lean ====
/-
  The launch of the kernel, as a machine run: what one call of its body leaves in the output block, that the
  pipeline of 32 calls runs, and that it leaves the arguments alone and every counter at zero.

  The body reads a block of 256 rows whose even rows are real parts and whose odd rows are imaginary parts, and
  writes the even and the odd rows of its output block with one strided store each. `blockOut` is what the two
  stores leave together; the rest of the file carries it through the pipeline.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Claim
public import Idealize.ShloMosaic.Lib.Tactic

@[expose] public section

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What the body stores -/

/-- The even rows of a block: its real parts. -/
abbrev evenRows : Rect S32x256x128 :=
  ⟨⟨![0, 0, 0], S32x128x128.size, ![1, 2, 1], inb_S32x256x128_S32x128x128_0_0_0_s_1_2_1⟩, spos_1_2_1⟩
/-- The odd rows of a block: its imaginary parts. -/
abbrev oddRows : Rect S32x256x128 :=
  ⟨⟨![0, 1, 0], S32x128x128.size, ![1, 2, 1], inb_S32x256x128_S32x128x128_0_1_0_s_1_2_1⟩, spos_1_2_1⟩

/-- Rows 0 to 3 of the parameter block hold the mixing matrix by rows, rows 4 and 5 the shift. -/
abbrev paramRow0 : Rect S8x128 := Rect.unit (s := S8x128) ![0, 0] S1x128.size inb_S8x128_S1x128_0_0
abbrev paramRow1 : Rect S8x128 := Rect.unit (s := S8x128) ![1, 0] S1x128.size inb_S8x128_S1x128_1_0
abbrev paramRow2 : Rect S8x128 := Rect.unit (s := S8x128) ![2, 0] S1x128.size inb_S8x128_S1x128_2_0
abbrev paramRow3 : Rect S8x128 := Rect.unit (s := S8x128) ![3, 0] S1x128.size inb_S8x128_S1x128_3_0
abbrev paramRow4 : Rect S8x128 := Rect.unit (s := S8x128) ![4, 0] S1x128.size inb_S8x128_S1x128_4_0
abbrev paramRow5 : Rect S8x128 := Rect.unit (s := S8x128) ![5, 0] S1x128.size inb_S8x128_S1x128_5_0

/-- The real parts the body computes from the real parts `xr`, the imaginary parts `xi` and the parameter
    block `q`. -/
def realOut (xr xi : Vec F S32x128x128 .f32) (q : Vec F S8x128 .f32) : FVec F S32x128x128 .f32 :=
  k0_pay1 (k0_pay3 xr) (k0_pay4 xi)
    (k0_pay20 (k0_pay7 xr) (k0_pay9 xr xi) (k0_pay10 xr xi) (k0_pay11 xr xi) (Scalar.ofBits .f32 0x40000000#32)
      (View.ld q paramRow0) (View.ld q paramRow1))
    (k0_pay21 (k0_pay8 xi) (k0_pay9 xr xi) (k0_pay10 xr xi) (k0_pay11 xr xi) (Scalar.ofBits .f32 0x40000000#32)
      (View.ld q paramRow0) (View.ld q paramRow1))
    (k0_pay24 (k0_pay5 xr) (k0_pay6 xi) (k0_pay7 xr) (k0_pay8 xi) (k0_pay9 xr xi) (k0_pay10 xr xi) (k0_pay11 xr xi)
      (Scalar.ofBits .f32 0x40000000#32) (View.ld q paramRow0) (View.ld q paramRow1) (View.ld q paramRow4))

/-- The imaginary parts the body computes. -/
def imagOut (xr xi : Vec F S32x128x128 .f32) (q : Vec F S8x128 .f32) : FVec F S32x128x128 .f32 :=
  k0_pay2 (k0_pay3 xr) (k0_pay4 xi) (k0_pay6 xi)
    (k0_pay22 (k0_pay7 xr) (k0_pay9 xr xi) (k0_pay10 xr xi) (k0_pay11 xr xi) (Scalar.ofBits .f32 0x40000000#32)
      (View.ld q paramRow2) (View.ld q paramRow3))
    (k0_pay23 (k0_pay8 xi) (k0_pay9 xr xi) (k0_pay10 xr xi) (k0_pay11 xr xi) (Scalar.ofBits .f32 0x40000000#32)
      (View.ld q paramRow2) (View.ld q paramRow3))
    (k0_pay25 (k0_pay5 xr) (k0_pay7 xr) (k0_pay9 xr xi) (k0_pay10 xr xi) (k0_pay11 xr xi)
      (Scalar.ofBits .f32 0x40000000#32) (View.ld q paramRow2) (View.ld q paramRow3))
    (k0_pay26 (View.ld q paramRow5))

/-- The output block after the body, from the activation block `x` and the parameter block `q`: the two strided
    stores, the last first. -/
def blockOut (x : Vec F S32x256x128 .f32) (q : Vec F S8x128 .f32) : Vec F S32x256x128 .f32 :=
  View.canon [⟨oddRows, imagOut (View.ld x evenRows) (View.ld x oddRows) q⟩,
    ⟨evenRows, realOut (View.ld x evenRows) (View.ld x oddRows) q⟩]

/-- A block index at an even row lies among the even rows. -/
theorem mem_evenRows {y : S32x256x128.Idx} (h : (y 1).val % 2 = 0) : y ∈ evenRows.set := by
  rw [LoadRect.mem_set]
  intro a
  have h0 : (y 0).val < 32 := (y 0).isLt
  have h1 : (y 1).val < 256 := (y 1).isLt
  have h2 : (y 2).val < 128 := (y 2).isLt
  match a with
  | ⟨0, _⟩ => exact ⟨(y 0).val, h0, show (y 0).val = 0 + 1 * (y 0).val by omega⟩
  | ⟨1, _⟩ => exact ⟨(y 1).val / 2, show (y 1).val / 2 < 128 by omega, show (y 1).val = 0 + 2 * ((y 1).val / 2) by omega⟩
  | ⟨2, _⟩ => exact ⟨(y 2).val, h2, show (y 2).val = 0 + 1 * (y 2).val by omega⟩

/-- A block index at an odd row lies among the odd rows. -/
theorem mem_oddRows {y : S32x256x128.Idx} (h : (y 1).val % 2 = 1) : y ∈ oddRows.set := by
  rw [LoadRect.mem_set]
  intro a
  have h0 : (y 0).val < 32 := (y 0).isLt
  have h1 : (y 1).val < 256 := (y 1).isLt
  have h2 : (y 2).val < 128 := (y 2).isLt
  match a with
  | ⟨0, _⟩ => exact ⟨(y 0).val, h0, show (y 0).val = 0 + 1 * (y 0).val by omega⟩
  | ⟨1, _⟩ => exact ⟨(y 1).val / 2, show (y 1).val / 2 < 128 by omega, show (y 1).val = 1 + 2 * ((y 1).val / 2) by omega⟩
  | ⟨2, _⟩ => exact ⟨(y 2).val, h2, show (y 2).val = 0 + 1 * (y 2).val by omega⟩

/-- Every row is even or odd, so the two stores write the whole block. -/
theorem rows_cover (po pe : Vec F S32x128x128 .f32) (y : S32x256x128.Idx) :
    ∃ pc ∈ ([⟨oddRows, po⟩, ⟨evenRows, pe⟩] : List (View.Piece (Elt F) S32x256x128 .f32)), y ∈ pc.1.set := by
  rcases Nat.mod_two_eq_zero_or_one (y 1).val with h | h
  · exact ⟨⟨evenRows, pe⟩, List.mem_cons_of_mem _ List.mem_cons_self, mem_evenRows h⟩
  · exact ⟨⟨oddRows, po⟩, List.mem_cons_self, mem_oddRows h⟩

/-! ## The body as a program -/

set_option maxHeartbeats 1000000 in
/-- The body, called on a block `x`, a parameter block `q` and an output buffer holding anything, leaves the two
    inputs as they were and the output buffer at `blockOut x q`. -/
theorem body_triple (c : Dev nD) (E : Set ℕ) (i : grid0.Coords) (arg1 : Memref sig .tc .vmem S32x256x128 .f32) (harg1 : arg1.IsWhole)
    (arg2 : Memref sig .tc .vmem S8x128 .f32) (harg2 : arg2.IsWhole) (arg3 : Memref sig .tc .vmem S32x256x128 .f32) (harg3 : arg3.IsWhole)
    (x : Vec F S32x256x128 .f32) (q : Vec F S8x128 .f32) (K : PUnit → sProp 𝕄) :
    iprop(owns (c : Thread nD τ) arg1 fullShare x ∗ owns (c : Thread nD τ) arg2 fullShare q ∗ (∃ d, owns (c : Thread nD τ) arg3 fullShare d)
        ∗ (iprop(owns (c : Thread nD τ) arg1 fullShare x ∗ owns (c : Thread nD τ) arg2 fullShare q ∗ owns (c : Thread nD τ) arg3 fullShare (blockOut x q)) -∗ K ⟨⟩))
      ⊢ wp frame (wpE (defs₀ (F := F)) Variants.none c none) E (cc0__cbn_kernel i arg1 harg1 arg2 harg2 arg3 harg3) K := by
  simp only [cc0__cbn_kernel_eq_skeleton]; unfold cc0__cbn_kernel_skel
  simp only [k0_part1_eq_skeleton, k0_part2_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (rows_cover _ _)).trans ?_
  rfl

variable (m : (ℓ : Loc nD τ sig) → Buf (Elt F) ℓ) (ρ : Dev nD → PrngReg)

/-! ## The pipeline's data -/

/-- What the pipeline's buffers hold, on core `c`: the arrays as the region finds them; after the call at point `t`
    each input buffer its block and the output buffer `blockOut` of the two. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => blockOut (iblk m c 0 t) (iblk m c 1 t)
  Φ _ := Pipeline.ΦA spec0 c
  q _ := fullShare
  owed _ := 0

/-- The arrays are those the region is entered with. -/
theorem dats_arrays (c : Dev nD) (w : Fin cfg0.W) : (dats m 0 c).A w = V m c (Pipeline.arrRef spec0 w) := by
  dsimp only [dats]

/-- The call at `t` leaves the activation block, -/
theorem after_x (c : Dev nD) (t : Fin cfg0.N) : (dats m 0 c).after 0 t = iblk m c 0 t := by dsimp only [dats]
/-- the parameter block, -/
theorem after_q (c : Dev nD) (t : Fin cfg0.N) : (dats m 0 c).after 1 t = iblk m c 1 t := by dsimp only [dats]
/-- and the output block. -/
theorem after_out (c : Dev nD) (t : Fin cfg0.N) :
    (dats m 0 c).after 2 t = blockOut (iblk m c 0 t) (iblk m c 1 t) := by dsimp only [dats]

/-- The call at `t` finds the activation block -/
theorem before_x (c : Dev nD) (t : Fin cfg0.N) (d) : (dats m 0 c).before 0 t d = iblk m c 0 t :=
  before0_0_of m (dats m 0 c) (dats_arrays m c 0) (after_x m c) t d
/-- and the parameter block. -/
theorem before_q (c : Dev nD) (t : Fin cfg0.N) (d) : (dats m 0 c).before 1 t d = iblk m c 1 t :=
  before0_1_of m (dats m 0 c) (dats_arrays m c 1) (after_q m c) t d

/-! ## The body at a point of the grid -/

/-- What the call at `t` is made with. -/
def callPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What the call at `t` returns. -/
def callPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The call at any point takes the one to the other. -/
theorem call_triple (c : Dev nD) (t : Fin cfg0.N) :
    callPre m c t ⊢ wp frame (wpE (defs₀ (F := F)) Variants.none c none) Set.univ (bodyAt0 t) (fun _ => callPost m c t) := by
  unfold callPre callPost bodyAt0
  simp only [before_x, before_q]
  rw [show (dats m 0 c).Φ t.succ = (dats m 0 c).Φ t.castSucc from rfl,
    show (dats m 0 c).owesAt () t.succ = (dats m 0 c).owesAt () t.castSucc from rfl,
    after_x, after_q, after_out]
  iintro ⟨HΦ, Ho, ⟨%d0, H0⟩, ⟨%d1, H1⟩, ⟨%d2, H2⟩⟩
  iapply (body_triple c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline calls the body as `bodyAt0` spells it. -/
theorem body_row (t : Fin cfg0.N) :
    defs₀ (F := F) .tc cfg0.body (cfg0.bodyArgs t (cfg0.slots t)) = bodyAt0 t := by
  unfold defs₀; rw [Defs.onTc_tc]

/-- So the body meets the pipeline's obligation at every point. -/
theorem body_obligation (c : Dev nD) : BodyObligation (dats (F := F) m 0 c) (defs₀ (F := F)) Variants.none () Set.univ := fun t => by
  rw [bigSep_W0, bigSep_W0, body_row]
  exact triple_restated (call_triple m c t) rfl .rfl fun _ => .rfl

/-! ## The run -/

set_option backward.isDefEq.respectTransparency.types false in
set_option maxHeartbeats 800000 in
/-- The program runs to an end; there the pipeline's arrays are what its data say, every other buffer is as the
    host lines after the region leave it, and every counter is zero. -/
theorem run_quiescent : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_arrays m) (hΦ := fun _ _ => rfl)

/-- The same without the counters. -/
theorem run_post : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The frame: the program runs, its arguments end as they were launched, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (dats_arrays m) (run_post m ρ))
    ((θ_run defs _ _).mono (fun _ h => h.2) (run_quiescent m ρ))

end Cert.KernelIdeal.Body

end
-- ==== Proof.KernelIdealHost.lean ====
/-
  The host program before the launch, as equations between arrays: the activation array the launch reads is the
  first argument, transposed and reshaped; the parameter array stacks one row per entry of the mixing matrix and of
  the shift. The file then reads both arrays at an index.
-/
module

public import proofs.«01_k».proof.Proof.KernelIdealFrame
public import Idealize.ShloMosaic.Lib.StableHlo.Run
public import Idealize.ShloMosaic.Lib.Pipeline.Value
public import Idealize.ShloMosaic.Lib.Pointwise

@[expose] public section

set_option maxRecDepth 16384

noncomputable section

namespace Cert.KernelIdeal.Host

open Cert.KernelIdeal Cert.KernelIdeal.Gen Cert.KernelIdeal.Body
open Idealize.ShloMosaic Idealize.ShloMosaic.TcCoe Idealize.ShloMosaic.Tactic Idealize.ShloMosaic.StableHlo

section Lines

variable {F : FTy → Type} [FloatOps F] [Named F]
variable (m : (ℓ : Loc nD τ sig) → Buf (Elt F) ℓ)

/-- The activation array the launch reads. -/
theorem entry_x (c : Dev nD) : V m c main_call0_v1 =
    shapeCast S32x8192x128 (transpose S32x64x64x2x128 [0, 2, 3, 4, 1] (m (c, Proc.devRef .tc main_arg0))
      transposes_S32x128x64x64x2_S32x64x64x2x128_0_2_3_4_1) shapeCasts_S32x64x64x2x128_S32x8192x128 := by
  unfold V V0
  simp only [hostOps0, List.flatten_cons, List.flatten_nil, List.append_nil, List.cons_append, List.nil_append]
  after_results
  rfl

/-- The parameter array the launch reads: eight rows, of which the last two are never read. -/
theorem entry_q (c : Dev nD) : V m c main_call0_v37 =
    concatenate S8x128 0 [⟨S1x128, V m c main_call0_v29⟩, ⟨S1x128, V m c main_call0_v30⟩,
      ⟨S1x128, V m c main_call0_v31⟩, ⟨S1x128, V m c main_call0_v32⟩, ⟨S1x128, V m c main_call0_v33⟩,
      ⟨S1x128, V m c main_call0_v34⟩, ⟨S1x128, V m c main_call0_v35⟩, ⟨S1x128, V m c main_call0_v36⟩]
      concatenates_S1x128_S1x128_S1x128_S1x128_S1x128_S1x128_S1x128_S1x128_S8x128_d0 := by
  unfold V V0
  simp only [hostOps0, List.flatten_cons, List.flatten_nil, List.append_nil, List.cons_append, List.nil_append]
  simp only [after_cons, after_nil]
  generalize HloOp.result (TRef.unary (.of main_call0_v28 : StableHlo.TRef sig ⟨S128, .f32⟩)
    (.of main_call0_v36 : StableHlo.TRef sig ⟨S1x128, .f32⟩) (broadcastInDim S1x128 ![1] bcast_S128_S1x128_1)) _ = W
  simp only [↓ readResult, ↓ readPieces]
  rfl

/-- A scalar repeated along a row, times one. -/
def paramRow (v : FVec F S_ .f32) : FVec F S1x128 .f32 :=
  broadcastInDim S1x128 ![1] bcast_S128_S1x128_1
    (mulf (broadcastInDim S128 ![] bcast_S_S128 v) (broadcastInDim S128 ![] bcast_S_S128 (constant S_ .f32 0x3F800000#32)))

/-- The parameter row of entry (0, 0) of the mixing matrix. -/
theorem entry_g00 (c : Dev nD) : V m c main_call0_v29 = paramRow (shapeCast S_
    (extractStridedSlice S1x1 ![0, 0] (m (c, Proc.devRef .tc main_arg1) : FVec F S2x2 .f32) slices_S2x2_S1x1_0_0)
    shapeCasts_S1x1_S_) := by
  unfold V V0
  simp only [hostOps0, List.flatten_cons, List.flatten_nil, List.append_nil, List.cons_append, List.nil_append]
  after_results
  rfl

/-- The parameter row of entry (0, 1) of the mixing matrix. -/
theorem entry_g01 (c : Dev nD) : V m c main_call0_v30 = paramRow (shapeCast S_
    (extractStridedSlice S1x1 ![0, 1] (m (c, Proc.devRef .tc main_arg1) : FVec F S2x2 .f32) slices_S2x2_S1x1_0_1)
    shapeCasts_S1x1_S_) := by
  unfold V V0
  simp only [hostOps0, List.flatten_cons, List.flatten_nil, List.append_nil, List.cons_append, List.nil_append]
  after_results
  rfl

/-- The parameter row of entry (1, 0) of the mixing matrix. -/
theorem entry_g10 (c : Dev nD) : V m c main_call0_v31 = paramRow (shapeCast S_
    (extractStridedSlice S1x1 ![1, 0] (m (c, Proc.devRef .tc main_arg1) : FVec F S2x2 .f32) slices_S2x2_S1x1_1_0)
    shapeCasts_S1x1_S_) := by
  unfold V V0
  simp only [hostOps0, List.flatten_cons, List.flatten_nil, List.append_nil, List.cons_append, List.nil_append]
  after_results
  rfl

/-- The parameter row of entry (1, 1) of the mixing matrix. -/
theorem entry_g11 (c : Dev nD) : V m c main_call0_v32 = paramRow (shapeCast S_
    (extractStridedSlice S1x1 ![1, 1] (m (c, Proc.devRef .tc main_arg1) : FVec F S2x2 .f32) slices_S2x2_S1x1_1_1)
    shapeCasts_S1x1_S_) := by
  unfold V V0
  simp only [hostOps0, List.flatten_cons, List.flatten_nil, List.append_nil, List.cons_append, List.nil_append]
  after_results
  rfl

/-- The parameter row of entry 0 of the shift. -/
theorem entry_b0 (c : Dev nD) : V m c main_call0_v33 = paramRow (shapeCast S_
    (extractStridedSlice S1 ![0] (m (c, Proc.devRef .tc main_arg2) : FVec F S2 .f32) slices_S2_S1_0)
    shapeCasts_S1_S_) := by
  unfold V V0
  simp only [hostOps0, List.flatten_cons, List.flatten_nil, List.append_nil, List.cons_append, List.nil_append]
  after_results
  rfl

/-- The parameter row of entry 1 of the shift. -/
theorem entry_b1 (c : Dev nD) : V m c main_call0_v34 = paramRow (shapeCast S_
    (extractStridedSlice S1 ![1] (m (c, Proc.devRef .tc main_arg2) : FVec F S2 .f32) slices_S2_S1_1)
    shapeCasts_S1_S_) := by
  unfold V V0
  simp only [hostOps0, List.flatten_cons, List.flatten_nil, List.append_nil, List.cons_append, List.nil_append]
  after_results
  rfl

/-- The activation array at batch element `b`, row `s`, lane `l`: row `s` holds the height, the width and the part
    of the argument's entry, and the lane its channel. -/
theorem entry_x_at (c : Dev nD) (b : Fin 32) (s : Fin 8192) (l : Fin 128) :
    (V m c main_call0_v1 : FVec F S32x8192x128 .f32) (ix3 b s l)
      = (m (c, Proc.devRef .tc main_arg0) : FVec F S32x128x64x64x2 .f32)
          (ix5 b l ⟨s.val / 128, by omega⟩ ⟨s.val / 2 % 64, by omega⟩ ⟨s.val % 2, by omega⟩) := by
  rw [entry_x]
  pointwise

/-- Row `k` of the parameter array is the `k`-th stacked row. -/
theorem entry_q_at (c : Dev nD) (k : Fin 8) (l : Fin 128) :
    (V m c main_call0_v37 : FVec F S8x128 .f32) (ix2 k l)
      = (![V m c main_call0_v29, V m c main_call0_v30, V m c main_call0_v31, V m c main_call0_v32, V m c main_call0_v33,
          V m c main_call0_v34, V m c main_call0_v35, V m c main_call0_v36] k : FVec F S1x128 .f32) (ix2 0 l) := by
  rw [entry_q]
  fin_cases k <;> pointwise

end Lines

variable (m : (ℓ : Loc nD τ sig) → Buf (Elt Ideal) ℓ)

/-- A parameter row at a lane is the scalar it repeats. -/
theorem paramRow_at (v : FVec Ideal S_ .f32) (l : Fin 128) : paramRow v (ix2 0 l) = v ix0 := by
  pointwise [paramRow]

/-- Row 0 of the parameter array holds entry (0, 0) of the mixing matrix. -/
theorem q_row0 (c : Dev nD) (l : Fin 128) : (V m c main_call0_v37 : FVec Ideal S8x128 .f32) (ix2 0 l)
    = (m (c, Proc.devRef .tc main_arg1) : FVec Ideal S2x2 .f32) (ix2 0 0) := by
  refine (entry_q_at m c 0 l).trans ((congrFun (entry_g00 m c) (ix2 0 l)).trans ?_)
  pointwise [paramRow_at]

/-- Row 1 of the parameter array holds entry (0, 1) of the mixing matrix. -/
theorem q_row1 (c : Dev nD) (l : Fin 128) : (V m c main_call0_v37 : FVec Ideal S8x128 .f32) (ix2 1 l)
    = (m (c, Proc.devRef .tc main_arg1) : FVec Ideal S2x2 .f32) (ix2 0 1) := by
  refine (entry_q_at m c 1 l).trans ((congrFun (entry_g01 m c) (ix2 0 l)).trans ?_)
  pointwise [paramRow_at]

/-- Row 2 of the parameter array holds entry (1, 0) of the mixing matrix. -/
theorem q_row2 (c : Dev nD) (l : Fin 128) : (V m c main_call0_v37 : FVec Ideal S8x128 .f32) (ix2 2 l)
    = (m (c, Proc.devRef .tc main_arg1) : FVec Ideal S2x2 .f32) (ix2 1 0) := by
  refine (entry_q_at m c 2 l).trans ((congrFun (entry_g10 m c) (ix2 0 l)).trans ?_)
  pointwise [paramRow_at]

/-- Row 3 of the parameter array holds entry (1, 1) of the mixing matrix. -/
theorem q_row3 (c : Dev nD) (l : Fin 128) : (V m c main_call0_v37 : FVec Ideal S8x128 .f32) (ix2 3 l)
    = (m (c, Proc.devRef .tc main_arg1) : FVec Ideal S2x2 .f32) (ix2 1 1) := by
  refine (entry_q_at m c 3 l).trans ((congrFun (entry_g11 m c) (ix2 0 l)).trans ?_)
  pointwise [paramRow_at]

/-- Row 4 of the parameter array holds entry 0 of the shift. -/
theorem q_row4 (c : Dev nD) (l : Fin 128) : (V m c main_call0_v37 : FVec Ideal S8x128 .f32) (ix2 4 l)
    = (m (c, Proc.devRef .tc main_arg2) : FVec Ideal S2 .f32) (ix1 0) := by
  refine (entry_q_at m c 4 l).trans ((congrFun (entry_b0 m c) (ix2 0 l)).trans ?_)
  pointwise [paramRow_at]

/-- Row 5 of the parameter array holds entry 1 of the shift. -/
theorem q_row5 (c : Dev nD) (l : Fin 128) : (V m c main_call0_v37 : FVec Ideal S8x128 .f32) (ix2 5 l)
    = (m (c, Proc.devRef .tc main_arg2) : FVec Ideal S2 .f32) (ix1 1) := by
  refine (entry_q_at m c 5 l).trans ((congrFun (entry_b1 m c) (ix2 0 l)).trans ?_)
  pointwise [paramRow_at]

end Cert.KernelIdeal.Host

end
-- ==== Proof.Whitening.lean ====
/-
  The mathematics of the claim at one position, with no program in it.

  A position has a batch of 32 complex activations: a column of real parts and a column of imaginary parts. Both
  programs whiten the column by the inverse square root of its two-by-two covariance, mix the two parts with a real
  matrix, and add a shift. They differ in four ways: the kernel takes second moments about zero and corrects them by
  the means, where the reference centres first; it multiplies by a reciprocal square root, where the reference
  divides by a square root; it folds the mixing matrix into the whitening before touching the activations; and it
  folds the means into the shift.

  `kernelOut_eq_referenceOut` says that the two agree whenever the activations and the mixing matrix are real,
  whatever the shift. A constant column is no exception: there both programs leave the shift.
-/
module

public import Idealize.ShloMosaic.PureOps.Ideal

@[expose] public section

noncomputable section

namespace Cert.Whitening

open Idealize.ShloMosaic

/-! ## The kernel's formulas -/

/-- The mean of a column, by a multiplication. -/
def kernelMean (x : Fin 32 → EReal) : EReal := (∑ b, x b) * ((1 / 32 : ℝ) : EReal)

/-- The covariance of two columns, from the sum of products corrected by the means. -/
def kernelCov (x y : Fin 32 → EReal) : EReal :=
  (∑ b, x b * y b - ((32 : ℝ) : EReal) * kernelMean x * kernelMean y) * ((1 / 31 : ℝ) : EReal)

/-- The square root of the covariance's determinant. -/
def kernelRootDet (x y : Fin 32 → EReal) : EReal :=
  Ideal.sqrt (kernelCov x x * kernelCov y y - kernelCov x y * kernelCov x y)

/-- The common factor of the inverse square root: one over the square root of the trace plus twice the root of the
    determinant. -/
def kernelScale (x y : Fin 32 → EReal) : EReal :=
  Ideal.rsqrt (kernelCov x x + kernelCov y y + ((2 : ℝ) : EReal) * kernelRootDet x y)

/-- The weight of the real part in the output part whose row of the mixing matrix is `g`. -/
def kernelWeightRe (x y : Fin 32 → EReal) (g : Fin 2 → EReal) : EReal :=
  g 0 * ((kernelCov x x + kernelRootDet x y) * kernelScale x y) + g 1 * (kernelCov x y * kernelScale x y)

/-- The weight of the imaginary part in it. -/
def kernelWeightIm (x y : Fin 32 → EReal) (g : Fin 2 → EReal) : EReal :=
  g 0 * (kernelCov x y * kernelScale x y) + g 1 * ((kernelCov y y + kernelRootDet x y) * kernelScale x y)

/-- The kernel's output part at batch element `b`, for the row `g` of the mixing matrix and the shift `β`. -/
def kernelOut (x y : Fin 32 → EReal) (g : Fin 2 → EReal) (β : EReal) (b : Fin 32) : EReal :=
  kernelWeightRe x y g * x b
    + (kernelWeightIm x y g * y b
      + (β - kernelWeightRe x y g * kernelMean x - kernelWeightIm x y g * kernelMean y))

/-! ## The reference's formulas -/

/-- A column less its mean. -/
def centred (x : Fin 32 → EReal) (b : Fin 32) : EReal := x b - Ideal.div (∑ b, x b) ((32 : ℝ) : EReal)

/-- The covariance of two columns, from the centred columns. -/
def referenceCov (x y : Fin 32 → EReal) : EReal :=
  Ideal.div (∑ b, centred x b * centred y b) ((31 : ℝ) : EReal)

/-- The square root of the covariance's determinant; `col 0` is the real parts, `col 1` the imaginary parts. -/
def referenceRootDet (col : Fin 2 → Fin 32 → EReal) : EReal :=
  Ideal.sqrt (referenceCov (col 0) (col 0) * referenceCov (col 1) (col 1)
    - referenceCov (col 0) (col 1) * referenceCov (col 1) (col 0))

/-- The square root of the trace plus twice the root of the determinant. -/
def referenceDenom (col : Fin 2 → Fin 32 → EReal) : EReal :=
  Ideal.sqrt (referenceCov (col 0) (col 0) + referenceCov (col 1) (col 1) + ((2 : ℝ) : EReal) * referenceRootDet col)

/-- The reference's matrix in front of the centred column. -/
def referenceMatrix (col : Fin 2 → Fin 32 → EReal) (i j : Fin 2) : EReal :=
  Ideal.div (referenceCov (col i) (col j) + referenceRootDet col * (if i = j then 1 else 0)) (referenceDenom col)

/-- The reference's output part at batch element `b`. -/
def referenceOut (col : Fin 2 → Fin 32 → EReal) (g : Fin 2 → EReal) (β : EReal) (b : Fin 32) : EReal :=
  (∑ j, (∑ l, centred (col l) b * referenceMatrix col j l) * g j) + β

/-! ## Real columns -/

/-- The mean of a real column. -/
def mean (X : Fin 32 → ℝ) : ℝ := (∑ b, X b) / 32

/-- The covariance of two real columns. -/
def cov (X Y : Fin 32 → ℝ) : ℝ := (∑ b, (X b - mean X) * (Y b - mean Y)) / 31

/-- A finite sum of reals, taken in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The kernel's mean of a real column is the mean. -/
theorem kernelMean_coe (X : Fin 32 → ℝ) : kernelMean (fun b => X b) = (mean X : EReal) := by
  unfold kernelMean mean
  rw [← coe_sum, ← EReal.coe_mul]
  congr 1; ring

/-- The sum of products about the means is the sum of products less 32 times the product of the means. -/
theorem sum_centred (X Y : Fin 32 → ℝ) :
    ∑ b, (X b - mean X) * (Y b - mean Y) = ∑ b, X b * Y b - 32 * mean X * mean Y := by
  have hX : ∑ b, X b = 32 * mean X := by unfold mean; ring
  have hY : ∑ b, Y b = 32 * mean Y := by unfold mean; ring
  have h : ∀ b, (X b - mean X) * (Y b - mean Y) = X b * Y b - mean Y * X b - mean X * Y b + mean X * mean Y := fun b => by ring
  simp only [h, Finset.sum_add_distrib, Finset.sum_sub_distrib, ← Finset.mul_sum, hX, hY, Finset.sum_const,
    Finset.card_univ, Fintype.card_fin, nsmul_eq_mul]
  push_cast; ring

/-- The kernel's covariance of real columns is the covariance. -/
theorem kernelCov_coe (X Y : Fin 32 → ℝ) : kernelCov (fun b => X b) (fun b => Y b) = (cov X Y : EReal) := by
  unfold kernelCov cov
  rw [kernelMean_coe, kernelMean_coe, sum_centred]
  simp only [← EReal.coe_mul, ← coe_sum, ← EReal.coe_sub]
  congr 1; ring

/-- The reference's centred real column. -/
theorem centred_coe (X : Fin 32 → ℝ) (b : Fin 32) : centred (fun b => X b) b = ((X b - mean X : ℝ) : EReal) := by
  unfold centred mean
  rw [Ideal.div_coe (by norm_num), ← coe_sum, ← EReal.coe_mul, ← EReal.coe_sub]
  congr 1; ring

/-- The reference's covariance of real columns is the covariance. -/
theorem referenceCov_coe (X Y : Fin 32 → ℝ) : referenceCov (fun b => X b) (fun b => Y b) = (cov X Y : EReal) := by
  unfold referenceCov cov
  simp only [centred_coe]
  rw [Ideal.div_coe (by norm_num)]
  simp only [← EReal.coe_mul, ← coe_sum]
  congr 1; ring

/-- The covariance is symmetric. -/
theorem cov_comm (X Y : Fin 32 → ℝ) : cov X Y = cov Y X := by
  unfold cov
  simp only [mul_comm]

/-- A variance is not negative. -/
theorem cov_self_nonneg (X : Fin 32 → ℝ) : 0 ≤ cov X X :=
  div_nonneg (Finset.sum_nonneg fun b _ => mul_self_nonneg _) (by norm_num)

/-- The covariance's determinant is not negative (Cauchy and Schwarz). -/
theorem det_nonneg (X Y : Fin 32 → ℝ) : 0 ≤ cov X X * cov Y Y - cov X Y * cov X Y := by
  have h := Finset.sum_mul_sq_le_sq_mul_sq Finset.univ (fun b => X b - mean X) (fun b => Y b - mean Y)
  simp only [sq] at h
  unfold cov
  have e : (∑ b, (X b - mean X) * (X b - mean X)) / 31 * ((∑ b, (Y b - mean Y) * (Y b - mean Y)) / 31)
      - (∑ b, (X b - mean X) * (Y b - mean Y)) / 31 * ((∑ b, (X b - mean X) * (Y b - mean Y)) / 31)
      = ((∑ b, (X b - mean X) * (X b - mean X)) * (∑ b, (Y b - mean Y) * (Y b - mean Y))
        - (∑ b, (X b - mean X) * (Y b - mean Y)) * (∑ b, (X b - mean X) * (Y b - mean Y))) / 961 := by ring
  rw [e]
  exact div_nonneg (sub_nonneg.mpr h) (by norm_num)

/-- A column of variance zero is constant. -/
theorem eq_mean_of_cov_self (X : Fin 32 → ℝ) (h : cov X X = 0) (b : Fin 32) : X b - mean X = 0 := by
  have hs : ∑ b, (X b - mean X) * (X b - mean X) = 0 := by
    unfold cov at h
    rcases div_eq_zero_iff.mp h with h | h
    · exact h
    · norm_num at h
  exact mul_self_eq_zero.mp ((Finset.sum_eq_zero_iff_of_nonneg fun b _ => mul_self_nonneg _).mp hs b (Finset.mem_univ b))

/-- The root of the determinant, as a real. -/
def rootDet (X Y : Fin 32 → ℝ) : ℝ := Real.sqrt (cov X X * cov Y Y - cov X Y * cov X Y)

/-- The trace plus twice the root of the determinant. -/
def denomSq (X Y : Fin 32 → ℝ) : ℝ := cov X X + cov Y Y + 2 * rootDet X Y

/-- The square root of a real that is not negative, taken in the extended reals. -/
theorem sqrt_coe_of_nonneg {r : ℝ} (h : 0 ≤ r) : Ideal.sqrt (r : EReal) = (Real.sqrt r : EReal) :=
  (Ideal.sqrt_coe r).trans (if_neg h.not_gt)

/-- The kernel's root of the determinant. -/
theorem kernelRootDet_coe (X Y : Fin 32 → ℝ) : kernelRootDet (fun b => X b) (fun b => Y b) = (rootDet X Y : EReal) := by
  unfold kernelRootDet rootDet
  simp only [kernelCov_coe, ← EReal.coe_mul, ← EReal.coe_sub]
  exact sqrt_coe_of_nonneg (det_nonneg X Y)

/-- The kernel's common factor is the reciprocal square root of `denomSq`. -/
theorem kernelScale_coe (X Y : Fin 32 → ℝ) :
    kernelScale (fun b => X b) (fun b => Y b) = Ideal.rsqrt (denomSq X Y : EReal) := by
  unfold kernelScale denomSq
  simp only [kernelCov_coe, kernelRootDet_coe, ← EReal.coe_mul, ← EReal.coe_add]

variable (Z : Fin 2 → Fin 32 → ℝ)

/-- The reference's root of the determinant. -/
theorem referenceRootDet_coe : referenceRootDet (fun l b => Z l b) = (rootDet (Z 0) (Z 1) : EReal) := by
  unfold referenceRootDet rootDet
  simp only [referenceCov_coe, ← EReal.coe_mul, ← EReal.coe_sub, cov_comm (Z 1) (Z 0)]
  exact sqrt_coe_of_nonneg (det_nonneg _ _)

/-- `denomSq` is not negative. -/
theorem denomSq_nonneg (X Y : Fin 32 → ℝ) : 0 ≤ denomSq X Y := by
  have := cov_self_nonneg X; have := cov_self_nonneg Y
  have := Real.sqrt_nonneg (cov X X * cov Y Y - cov X Y * cov X Y)
  unfold denomSq rootDet; linarith

/-- The reference's denominator. -/
theorem referenceDenom_coe : referenceDenom (fun l b => Z l b) = (Real.sqrt (denomSq (Z 0) (Z 1)) : EReal) := by
  unfold referenceDenom
  rw [referenceRootDet_coe]
  simp only [referenceCov_coe, ← EReal.coe_mul, ← EReal.coe_add]
  exact sqrt_coe_of_nonneg (denomSq_nonneg _ _)

/-- A real added in front of a shift: what the kernel and the reference make of the shift, which need not be real. -/
theorem fold_shift (a c d e : ℝ) (β : EReal) (f : ℝ) (h : a + (c - d - e) = f) :
    (a : EReal) + (c + (β - d - e)) = f + β := by
  induction β with
  | bot => simp
  | top =>
    rw [EReal.top_sub_coe, EReal.top_sub_coe, EReal.coe_add_top, EReal.coe_add_top, EReal.coe_add_top]
  | coe β =>
    simp only [← EReal.coe_sub, ← EReal.coe_add]
    congr 1; linarith

/-- The two agree when the column is not constant. -/
theorem kernelOut_eq_of_pos (g : Fin 2 → ℝ) (β : EReal) (b : Fin 32) (h : 0 < denomSq (Z 0) (Z 1)) :
    kernelOut (fun b => Z 0 b) (fun b => Z 1 b) (fun k => g k) β b
      = referenceOut (fun l b => Z l b) (fun k => g k) β b := by
  have hq : Real.sqrt (denomSq (Z 0) (Z 1)) ≠ 0 := (Real.sqrt_pos.mpr h).ne'
  have hk : kernelScale (fun b => Z 0 b) (fun b => Z 1 b) = ((Real.sqrt (denomSq (Z 0) (Z 1)))⁻¹ : ℝ) := by
    rw [kernelScale_coe]
    exact (Ideal.rsqrt_coe _).trans ((if_neg h.le.not_gt).trans (if_neg h.ne'))
  unfold kernelOut referenceOut kernelWeightRe kernelWeightIm referenceMatrix
  simp only [Fin.sum_univ_two, hk, kernelRootDet_coe, kernelCov_coe, kernelMean_coe, referenceCov_coe,
    referenceRootDet_coe, referenceDenom_coe, centred_coe, Ideal.div_coe hq, cov_comm (Z 1) (Z 0)]
  simp only [↓reduceIte, zero_ne_one, one_ne_zero, ← EReal.coe_one, ← EReal.coe_zero, ← EReal.coe_mul, ← EReal.coe_add]
  refine fold_shift _ _ _ _ _ _ ?_
  rw [one_div]; ring

/-- The two agree when the column is constant: both leave the shift. -/
theorem kernelOut_eq_of_zero (g : Fin 2 → ℝ) (β : EReal) (b : Fin 32) (h : denomSq (Z 0) (Z 1) = 0) :
    kernelOut (fun b => Z 0 b) (fun b => Z 1 b) (fun k => g k) β b
      = referenceOut (fun l b => Z l b) (fun k => g k) β b := by
  have h0 := cov_self_nonneg (Z 0)
  have h1 := cov_self_nonneg (Z 1)
  have hs : 0 ≤ rootDet (Z 0) (Z 1) := Real.sqrt_nonneg _
  have hd : cov (Z 0) (Z 0) + cov (Z 1) (Z 1) + 2 * rootDet (Z 0) (Z 1) = 0 := h
  have c0 : cov (Z 0) (Z 0) = 0 := by linarith
  have c1 : cov (Z 1) (Z 1) = 0 := by linarith
  have cs : rootDet (Z 0) (Z 1) = 0 := by linarith
  have z0 := eq_mean_of_cov_self (Z 0) c0
  have z1 := eq_mean_of_cov_self (Z 1) c1
  have c01 : cov (Z 0) (Z 1) = 0 := by unfold cov; simp [z0]
  unfold kernelOut referenceOut kernelWeightRe kernelWeightIm
  simp only [Fin.sum_univ_two, kernelRootDet_coe, kernelCov_coe, kernelMean_coe, centred_coe, z0, z1, c0, c1, c01, cs,
    EReal.coe_zero, add_zero, zero_mul, mul_zero, zero_add, sub_zero]

/-- THE MATHEMATICS: over real activations and a real mixing matrix the kernel's formula is the reference's,
    whatever the shift. -/
theorem kernelOut_eq_referenceOut (col : Fin 2 → Fin 32 → EReal) (g : Fin 2 → EReal) (β : EReal) (b : Fin 32)
    (hcol : ∀ l b, ∃ r : ℝ, col l b = r) (hg : ∀ k, ∃ r : ℝ, g k = r) :
    kernelOut (col 0) (col 1) g β b = referenceOut col g β b := by
  choose Z hZ using hcol
  choose G hG using hg
  obtain rfl : col = fun l b => (Z l b : EReal) := funext fun l => funext fun b => hZ l b
  obtain rfl : g = fun k => (G k : EReal) := funext hG
  rcases (denomSq_nonneg (Z 0) (Z 1)).lt_or_eq with h | h
  · exact kernelOut_eq_of_pos Z G β b h
  · exact kernelOut_eq_of_zero Z G β b h.symm

end Cert.Whitening

end
-- ==== Proof.Constants.lean ====
/-
  The real numbers the two programs' printed constants denote.
-/
module

public import Idealize.ShloMosaic.PureOps.Ideal

@[expose] public section

noncomputable section

namespace Cert.Constants

open Idealize.ShloMosaic

/-- The reciprocal of the batch size, exact in binary. -/
theorem ofBits_inv32 : Ideal.ofBits .f32 0x3D000000#32 = ((1 / 32 : ℝ) : EReal) := by
  simp [Ideal.ofBits, Ideal.ieee, -EReal.coe_mul]; norm_num

/-- The batch size. -/
theorem ofBits_32 : Ideal.ofBits .f32 0x42000000#32 = ((32 : ℝ) : EReal) := by
  simp [Ideal.ofBits, Ideal.ieee, -EReal.coe_mul]; norm_num

/-- One less than the batch size. -/
theorem ofBits_31 : Ideal.ofBits .f32 0x41F80000#32 = ((31 : ℝ) : EReal) := by
  simp [Ideal.ofBits, Ideal.ieee, -EReal.coe_mul]; norm_num

/-- The factor of the root of the determinant. -/
theorem ofBits_2 : Ideal.ofBits .f32 0x40000000#32 = ((2 : ℝ) : EReal) := by
  simp [Ideal.ofBits, Ideal.ieee, -EReal.coe_mul]; norm_num

/-- The bound the precondition compares with. -/
theorem ofBits_inf : Ideal.ofBits .f32 0x7F800000#32 = ⊤ := by
  simp [Ideal.ofBits, Ideal.ieee]

end Cert.Constants

end
-- ==== Proof.KernelIdealValue.lean ====
/-
  What one call of the kernel's body computes, read at an index: the two stores are the formulas of `Whitening` in
  the column of real parts and the column of imaginary parts at their position.
-/
module

public import proofs.«01_k».proof.Proof.KernelIdealHost
public import proofs.«01_k».proof.Proof.Whitening
public import proofs.«01_k».proof.Proof.Constants

@[expose] public section

set_option maxRecDepth 16384

noncomputable section

namespace Cert.KernelIdeal.Value

open Cert.KernelIdeal Cert.KernelIdeal.Gen Cert.KernelIdeal.Body Cert.KernelIdeal.Host Cert.Whitening Cert.Constants
open Idealize.ShloMosaic Idealize.ShloMosaic.TcCoe

/-- The named reciprocal of one less than the batch size. -/
theorem named_inv_bm1 : Named.named (F := Ideal) Cert.KernelIdeal.κ "inv_bm1" (φ := .f32) 0x3D042108#32 = ((1 / 31 : ℝ) : EReal) :=
  IdealRules.named_const.ideal_named_scalar _ _ _ _ rfl

/-- The real parts a body call stores. -/
theorem realOut_at (xr xi : FVec Ideal S32x128x128 .f32) (q : FVec Ideal S8x128 .f32) (b : Fin 32) (r l : Fin 128) :
    realOut (F := Ideal) xr xi q (ix3 b r l) = kernelOut (fun b => xr (ix3 b r l)) (fun b => xi (ix3 b r l))
      ![q (ix2 0 l), q (ix2 1 l)] (q (ix2 4 l)) b := by
  pointwise [realOut, k0_pay1, k0_pay3, k0_pay4, k0_pay5, k0_pay6, k0_pay7, k0_pay8, k0_pay9, k0_pay10, k0_pay11,
    k0_pay12, k0_pay13, k0_pay14, k0_pay15, k0_pay16, k0_pay17, k0_pay20, k0_pay21, k0_pay24]
  simp only [ofBits_inv32, ofBits_32, ofBits_2, named_inv_bm1]
  rfl

/-- The imaginary parts a body call stores. -/
theorem imagOut_at (xr xi : FVec Ideal S32x128x128 .f32) (q : FVec Ideal S8x128 .f32) (b : Fin 32) (r l : Fin 128) :
    imagOut (F := Ideal) xr xi q (ix3 b r l) = kernelOut (fun b => xr (ix3 b r l)) (fun b => xi (ix3 b r l))
      ![q (ix2 2 l), q (ix2 3 l)] (q (ix2 5 l)) b := by
  pointwise [imagOut, k0_pay2, k0_pay3, k0_pay4, k0_pay5, k0_pay6, k0_pay7, k0_pay8, k0_pay9, k0_pay10, k0_pay11,
    k0_pay12, k0_pay13, k0_pay14, k0_pay15, k0_pay18, k0_pay19, k0_pay22, k0_pay23, k0_pay25, k0_pay26]
  simp only [ofBits_inv32, ofBits_32, ofBits_2, named_inv_bm1]
  rfl

/-- No even row is an odd one. -/
theorem even_not_odd (y : S32x128x128.Idx) : evenRows.emb y ∉ oddRows.set := by
  rw [LoadRect.mem_set]
  have apart : ∀ i j : ℕ, 0 + 2 * i ≠ 1 + 2 * j := fun i j => by omega
  exact fun h => Exists.elim (h 1) fun j hj => apart (y 1).val j hj.2

/-- The even rows of a block, as the body reads them. -/
abbrev evenPart (x : FVec Ideal S32x256x128 .f32) : FVec Ideal S32x128x128 .f32 := fun j => x (evenRows.emb j)
/-- The odd rows of a block. -/
abbrev oddPart (x : FVec Ideal S32x256x128 .f32) : FVec Ideal S32x128x128 .f32 := fun j => x (oddRows.emb j)

/-- At an even row the block holds what the store of the real parts put there. -/
theorem blockOut_even (x : FVec Ideal S32x256x128 .f32) (q : FVec Ideal S8x128 .f32) (y : S32x128x128.Idx) :
    blockOut (F := Ideal) x q (evenRows.emb y) = realOut (F := Ideal) (evenPart x) (oddPart x) q y := by
  unfold blockOut
  have h := View.canon_cons_of_not_mem (Val := Elt Ideal)
    (⟨oddRows, imagOut (F := Ideal) (evenPart x) (oddPart x) q⟩ : View.Piece (Elt Ideal) S32x256x128 .f32)
    [⟨evenRows, realOut (F := Ideal) (evenPart x) (oddPart x) q⟩] (y := evenRows.emb y) (even_not_odd y)
  exact h.trans (View.canon_cons_emb evenRows _ _ y)

/-- At an odd row the block holds what the store of the imaginary parts put there. -/
theorem blockOut_odd (x : FVec Ideal S32x256x128 .f32) (q : FVec Ideal S8x128 .f32) (y : S32x128x128.Idx) :
    blockOut (F := Ideal) x q (oddRows.emb y) = imagOut (F := Ideal) (evenPart x) (oddPart x) q y := by
  unfold blockOut
  exact View.canon_cons_emb oddRows _ _ y

/-- Row `r` among the even rows is row `2 r` of the block. -/
theorem evenRows_emb (b : Fin 32) (r l : Fin 128) :
    evenRows.emb (ix3 b r l) = (ix3 b ⟨2 * r.val, by omega⟩ l : S32x256x128.Idx) := by
  funext a; apply Fin.ext
  match a with
  | ⟨0, _⟩ => show 0 + 1 * b.val = b.val; omega
  | ⟨1, _⟩ => show 0 + 2 * r.val = 2 * r.val; omega
  | ⟨2, _⟩ => show 0 + 1 * l.val = l.val; omega

/-- Row `r` among the odd rows is row `2 r + 1` of the block. -/
theorem oddRows_emb (b : Fin 32) (r l : Fin 128) :
    oddRows.emb (ix3 b r l) = (ix3 b ⟨2 * r.val + 1, by omega⟩ l : S32x256x128.Idx) := by
  funext a; apply Fin.ext
  match a with
  | ⟨0, _⟩ => show 0 + 1 * b.val = b.val; omega
  | ⟨1, _⟩ => show 1 + 2 * r.val = 2 * r.val + 1; omega
  | ⟨2, _⟩ => show 0 + 1 * l.val = l.val; omega

/-- The whole block a body call leaves: at a row, the column of real parts is the even row of its pair, the column
    of imaginary parts the odd one, and the row's parity says which row of the mixing matrix and which entry of the
    shift take part. -/
theorem blockOut_at (x : FVec Ideal S32x256x128 .f32) (q : FVec Ideal S8x128 .f32) (b : Fin 32) (r : Fin 128) (k : Fin 2)
    (l : Fin 128) :
    blockOut (F := Ideal) x q (ix3 b ⟨2 * r.val + k.val, by omega⟩ l)
      = kernelOut (fun b => x (ix3 b ⟨2 * r.val, by omega⟩ l)) (fun b => x (ix3 b ⟨2 * r.val + 1, by omega⟩ l))
          ![q (ix2 ⟨2 * k.val, by omega⟩ l), q (ix2 ⟨2 * k.val + 1, by omega⟩ l)] (q (ix2 ⟨4 + k.val, by omega⟩ l)) b := by
  have hcol : ∀ (g : Fin 2 → EReal) (β : EReal),
      kernelOut (fun b => x (evenRows.emb (ix3 b r l))) (fun b => x (oddRows.emb (ix3 b r l))) g β b
        = kernelOut (fun b => x (ix3 b ⟨2 * r.val, by omega⟩ l)) (fun b => x (ix3 b ⟨2 * r.val + 1, by omega⟩ l)) g β b :=
    fun g β => congrArg₂ (fun X Y => kernelOut X Y g β b) (funext fun b => congrArg x (evenRows_emb b r l))
      (funext fun b => congrArg x (oddRows_emb b r l))
  rcases Fin.exists_fin_two.mp ⟨k, rfl⟩ with rfl | rfl
  · exact (congrArg (blockOut (F := Ideal) x q) (evenRows_emb b r l).symm).trans ((blockOut_even x q (ix3 b r l)).trans
      ((realOut_at _ _ q b r l).trans (hcol _ _)))
  · exact (congrArg (blockOut (F := Ideal) x q) (oddRows_emb b r l).symm).trans ((blockOut_odd x q (ix3 b r l)).trans
      ((imagOut_at _ _ q b r l).trans (hcol _ _)))

end Cert.KernelIdeal.Value

end
-- ==== Proof.KernelIdealResult.lean ====
/-
  The array the launch leaves and the program's result, read at an index: at batch element, channel, height, width
  and part, the result is the kernel's formula in the two columns at that channel, height and width.
-/
module

public import proofs.«01_k».proof.Proof.KernelIdealValue
public import Idealize.ShloMosaic.Lib.Pipeline.ValueKit

@[expose] public section

set_option maxRecDepth 16384

noncomputable section

namespace Cert.KernelIdeal.Value

open Cert.KernelIdeal Cert.KernelIdeal.Gen Cert.KernelIdeal.Body Cert.KernelIdeal.Host Cert.Whitening
open Idealize.ShloMosaic Idealize.ShloMosaic.TcCoe Idealize.ShloMosaic.Tactic
open Idealize.ShloMosaic.Pipeline (Dat)

variable (m : (ℓ : Loc nD τ sig) → Buf (Elt Ideal) ℓ)

/-- The block every window stands on at a grid point. -/
theorem idx : ∀ t : Fin cfg0.N, win0_0.index t = ![0, t.val, 0] ∧ win0_1.index t = ![0, 0] ∧ win0_2.index t = ![0, t.val, 0] :=
  (by decide +kernel : ∀ t : Fin grid0.N, _)

/-- The kernel's formula at a batch element, channel, height, width and part, from the three arguments. -/
def outAt (z : FVec Ideal S32x128x64x64x2 .f32) (g : FVec Ideal S2x2 .f32) (β : FVec Ideal S2 .f32)
    (b : Fin 32) (ch : Fin 128) (h w : Fin 64) (k : Fin 2) : EReal :=
  kernelOut (fun b => z (ix5 b ch h w 0)) (fun b => z (ix5 b ch h w 1)) ![g (ix2 k 0), g (ix2 k 1)] (β (ix1 k)) b

/-- The array the launch leaves: row `s` of lane `l` is the output at channel `l` and the height, width and part
    that `s` counts. -/
def launched (c : Dev nD) : FVec Ideal S32x8192x128 .f32 := fun i =>
  outAt (m (c, Proc.devRef .tc main_arg0)) (m (c, Proc.devRef .tc main_arg1)) (m (c, Proc.devRef .tc main_arg2))
    (i 0) (i 2) ⟨(i 1).val / 128, by have h : (i 1).val < 8192 := (i 1).isLt; omega⟩
    ⟨(i 1).val / 2 % 64, by omega⟩ ⟨(i 1).val % 2, by omega⟩

/-- A grid point's activation block, read at an index. -/
theorem block_x (c : Dev nD) (t : Fin 32) (b : Fin 32) (s : Fin 256) (l : Fin 128) :
    (iblk m c 0 t : FVec Ideal S32x256x128 .f32) (ix3 b s l)
      = (m (c, Proc.devRef .tc main_arg0) : FVec Ideal S32x128x64x64x2 .f32)
          (ix5 b l ⟨(256 * t.val + s.val) / 128, by omega⟩ ⟨(256 * t.val + s.val) / 2 % 64, by omega⟩ ⟨s.val % 2, by omega⟩) := by
  have e : (iblk m c 0 t : FVec Ideal S32x256x128 .f32) (ix3 b s l)
      = (V m c main_call0_v1 : FVec Ideal S32x8192x128 .f32) (ix3 b ⟨256 * t.val + s.val, by omega⟩ l) := by
    blk_ext [iblk, idx t]
  refine e.trans ((entry_x_at m c b ⟨256 * t.val + s.val, by omega⟩ l).trans (congrArg _ ?_))
  refine congrArg _ (Fin.ext ?_)
  show (256 * t.val + s.val) % 2 = s.val % 2
  omega

/-- A grid point's parameter block is the whole parameter array. -/
theorem block_q (c : Dev nD) (t : Fin 32) (k : Fin 8) (l : Fin 128) :
    (iblk m c 1 t : FVec Ideal S8x128 .f32) (ix2 k l) = (V m c main_call0_v37 : FVec Ideal S8x128 .f32) (ix2 k l) := by
  blk_ext [iblk, idx t]

/-- What the body leaves at row `2 r + k` of a grid point's output block is the array's entry at the row of the
    array that row stands on. -/
theorem block_out (c : Dev nD) (t : Fin 32) (b : Fin 32) (r : Fin 128) (k : Fin 2) (l : Fin 128) :
    blockOut (F := Ideal) (iblk m c 0 t) (iblk m c 1 t) (ix3 b ⟨2 * r.val + k.val, by omega⟩ l)
      = launched m c (ix3 b ⟨256 * t.val + (2 * r.val + k.val), by omega⟩ l) := by
  refine (blockOut_at (iblk m c 0 t) (iblk m c 1 t) b r k l).trans ?_
  have hz : ∀ (b : Fin 32) (j : Fin 2), (iblk m c 0 t : FVec Ideal S32x256x128 .f32) (ix3 b ⟨2 * r.val + j.val, by omega⟩ l)
      = (m (c, Proc.devRef .tc main_arg0) : FVec Ideal S32x128x64x64x2 .f32)
          (ix5 b l ⟨(256 * t.val + (2 * r.val + k.val)) / 128, by omega⟩
            ⟨(256 * t.val + (2 * r.val + k.val)) / 2 % 64, by omega⟩ j) := by
    intro b j
    refine (block_x m c t b ⟨2 * r.val + j.val, by omega⟩ l).trans (congrArg _ ?_)
    have e0 : (256 * t.val + (2 * r.val + j.val)) / 128 = (256 * t.val + (2 * r.val + k.val)) / 128 := by omega
    have e1 : (256 * t.val + (2 * r.val + j.val)) / 2 % 64 = (256 * t.val + (2 * r.val + k.val)) / 2 % 64 := by omega
    have e2 : (2 * r.val + j.val) % 2 = j.val := by omega
    simp only [e0, e1, e2]
  have hk : (⟨(256 * t.val + (2 * r.val + k.val)) % 2, by omega⟩ : Fin 2) = k := Fin.ext (by show _ % 2 = k.val; omega)
  have hg : (![(iblk m c 1 t : FVec Ideal S8x128 .f32) (ix2 ⟨2 * k.val, by omega⟩ l),
        (iblk m c 1 t : FVec Ideal S8x128 .f32) (ix2 ⟨2 * k.val + 1, by omega⟩ l)] : Fin 2 → EReal)
      = ![(m (c, Proc.devRef .tc main_arg1) : FVec Ideal S2x2 .f32) (ix2 k 0),
          (m (c, Proc.devRef .tc main_arg1) : FVec Ideal S2x2 .f32) (ix2 k 1)] := by
    rcases Fin.exists_fin_two.mp ⟨k, rfl⟩ with rfl | rfl
    · exact congrArg₂ (fun u v => ![u, v]) ((block_q m c t 0 l).trans (q_row0 m c l)) ((block_q m c t 1 l).trans (q_row1 m c l))
    · exact congrArg₂ (fun u v => ![u, v]) ((block_q m c t 2 l).trans (q_row2 m c l)) ((block_q m c t 3 l).trans (q_row3 m c l))
  have hβ : (iblk m c 1 t : FVec Ideal S8x128 .f32) (ix2 ⟨4 + k.val, by omega⟩ l)
      = (m (c, Proc.devRef .tc main_arg2) : FVec Ideal S2 .f32) (ix1 k) := by
    rcases Fin.exists_fin_two.mp ⟨k, rfl⟩ with rfl | rfl
    · exact (block_q m c t 4 l).trans (q_row4 m c l)
    · exact (block_q m c t 5 l).trans (q_row5 m c l)
  show _ = outAt _ _ _ b l _ _ ⟨(256 * t.val + (2 * r.val + k.val)) % 2, _⟩
  rw [hk]
  unfold outAt
  refine (congrArg₂ (fun X Y => kernelOut X Y _ _ b) (funext fun b => hz b 0) (funext fun b => hz b 1)).trans ?_
  exact congrArg₂ (fun g β => kernelOut _ _ g β b) hg hβ

/-- The same at any index of the block. -/
theorem block_out_at (c : Dev nD) (t : Fin 32) (y : S32x256x128.Idx) :
    blockOut (F := Ideal) (iblk m c 0 t) (iblk m c 1 t) y
      = launched m c (ix3 (y 0) ⟨256 * t.val + (y 1).val, by have h : (y 1).val < 256 := (y 1).isLt; omega⟩ (y 2)) := by
  idx_vars y
  have e : y1 = ⟨2 * (⟨y1.val / 2, by omega⟩ : Fin 128).val + (⟨y1.val % 2, by omega⟩ : Fin 2).val, by dsimp only; omega⟩ :=
    Fin.ext (by dsimp only; omega)
  rw [e]
  exact block_out m c t y0 ⟨y1.val / 2, by omega⟩ ⟨y1.val % 2, by omega⟩ y2

/-- The array the launch leaves is `launched`: every row is written back by the grid point that computes it. -/
theorem final (c : Dev nD) : (dats (F := Ideal) m 0 c).arrAt 2 (cfgs 0).N = launched m c := by
  refine (dats (F := Ideal) m 0 c).arrAt_eq_of_covers 2 _ (by decide +kernel) fun t _ y => ?_
  blk_simp
  rw [after_out]
  refine (block_out_at m c t y).trans (congrArg (launched m c) ?_)
  blk_ext [idx t]

/-- The program's result: the launched array, reshaped and transposed back. -/
theorem result_eq (c : Dev nD) : Pipeline.afterTail₀ cfgs (dats (F := Ideal) m) 0 (V0 m) [hostOps1] c main_v0
    = transpose S32x128x64x64x2 [0, 4, 1, 2, 3] (shapeCast S32x64x64x2x128 (launched m c) shapeCasts_S32x8192x128_S32x64x64x2x128)
        transposes_S32x64x64x2x128_S32x128x64x64x2_0_4_1_2_3 := by
  unfold Pipeline.afterTail₀
  simp only [hostOps1, List.flatten_cons, List.flatten_nil, List.append_nil, List.cons_append, List.nil_append]
  after_results
  have e := (Pipeline.withArrays_arr (cfgs 0).spec launch0.win.arr_inj c (V0 m c)
    (fun w => (dats (F := Ideal) m 0 c).arrAt w (cfgs 0).N) 2).trans (final m c)
  exact congrArg (fun X : FVec Ideal S32x8192x128 .f32 =>
    transpose S32x128x64x64x2 [0, 4, 1, 2, 3] (shapeCast S32x64x64x2x128 X shapeCasts_S32x8192x128_S32x64x64x2x128)
      transposes_S32x64x64x2x128_S32x128x64x64x2_0_4_1_2_3) e

/-- The program's result at an index. -/
theorem result_at (c : Dev nD) (b : Fin 32) (ch : Fin 128) (h w : Fin 64) (k : Fin 2) :
    (Pipeline.afterTail₀ cfgs (dats (F := Ideal) m) 0 (V0 m) [hostOps1] c main_v0 : FVec Ideal S32x128x64x64x2 .f32) (ix5 b ch h w k)
      = outAt (m (c, Proc.devRef .tc main_arg0)) (m (c, Proc.devRef .tc main_arg1)) (m (c, Proc.devRef .tc main_arg2)) b ch h w k := by
  rw [result_eq]
  pointwise
  have eh : (⟨(h.val * 128 + w.val * 2 + k.val) / 128, by omega⟩ : Fin 64) = h := Fin.ext (by dsimp only; omega)
  have ew : (⟨(h.val * 128 + w.val * 2 + k.val) / 2 % 64, by omega⟩ : Fin 64) = w := Fin.ext (by dsimp only; omega)
  have ek : (⟨(h.val * 128 + w.val * 2 + k.val) % 2, by omega⟩ : Fin 2) = k := Fin.ext (by dsimp only; omega)
  show outAt _ _ _ b ch ⟨(h.val * 128 + w.val * 2 + k.val) / 128, _⟩ ⟨(h.val * 128 + w.val * 2 + k.val) / 2 % 64, _⟩
    ⟨(h.val * 128 + w.val * 2 + k.val) % 2, _⟩ = _
  rw [eh, ew, ek]

end Cert.KernelIdeal.Value

end
-- ==== Proof.ReferenceIdealValue.lean ====
/-
  The reference's result, read at an index: the reference's formula in the two columns at a channel, height and width.
-/
module

public import proofs.«01_k».proof.Proof.Gen.ReferenceIdeal.Run
public import proofs.«01_k».proof.Proof.Whitening
public import proofs.«01_k».proof.Proof.Constants
public import Idealize.ShloMosaic.Lib.Pointwise
public import Idealize.ShloMosaic.Lib.WordCmp

@[expose] public section

set_option maxRecDepth 16384

noncomputable section

namespace Cert.ReferenceIdeal.Value

open Cert.ReferenceIdeal Cert.ReferenceIdeal.Gen Cert.Whitening Cert.Constants
open Idealize.ShloMosaic Idealize.ShloMosaic.TcCoe

/-! ## The reference's arrays, stage by stage, over the activations as batch × position × part -/

/-- The activations less their mean over the batch. -/
def centredArr (x : FVec Ideal S32x524288x2 .f32) : FVec Ideal S32x524288x2 .f32 :=
  subf x (broadcastInDim S32x524288x2 ![0, 1, 2] bcast_S1x524288x2_S32x524288x2_0_1_2
    (broadcastInDim S1x524288x2 ![1, 2] bcast_S524288x2_S1x524288x2_1_2
      (Host.divf (Host.reduceAdd x (constant S_ .f32 0x00000000#32) reducesTo_S32x524288x2_S524288x2_d0 h_S_)
        (broadcastInDim S524288x2 ![] bcast_S_S524288x2 (constant S_ .f32 0x42000000#32)))))

/-- The covariance matrices, one per position. -/
def covArr (x : FVec Ideal S32x524288x2 .f32) : FVec Ideal S524288x2x2 .f32 :=
  Host.divf (Host.dotGeneral dot_S32x524288x2_S32x524288x2_S524288x2x2_0_0_2_2_1_1 none (centredArr x) (centredArr x))
    (broadcastInDim S524288x2x2 ![] bcast_S_S524288x2x2 (constant S_ .f32 0x41F80000#32))

/-- The four entries of a stack of matrices, each as an array over the positions. -/
def entry00 (s : FVec Ideal S524288x2x2 .f32) : FVec Ideal S524288 .f32 :=
  shapeCast S524288 (extractStridedSlice S524288x1x1 ![0, 0, 0] s slices_S524288x2x2_S524288x1x1_0_0_0) shapeCasts_S524288x1x1_S524288
def entry01 (s : FVec Ideal S524288x2x2 .f32) : FVec Ideal S524288 .f32 :=
  shapeCast S524288 (extractStridedSlice S524288x1x1 ![0, 0, 1] s slices_S524288x2x2_S524288x1x1_0_0_1) shapeCasts_S524288x1x1_S524288
def entry10 (s : FVec Ideal S524288x2x2 .f32) : FVec Ideal S524288 .f32 :=
  shapeCast S524288 (extractStridedSlice S524288x1x1 ![0, 1, 0] s slices_S524288x2x2_S524288x1x1_0_1_0) shapeCasts_S524288x1x1_S524288
def entry11 (s : FVec Ideal S524288x2x2 .f32) : FVec Ideal S524288 .f32 :=
  shapeCast S524288 (extractStridedSlice S524288x1x1 ![0, 1, 1] s slices_S524288x2x2_S524288x1x1_0_1_1) shapeCasts_S524288x1x1_S524288

/-- The square roots of the determinants. -/
def rootDetArr (s : FVec Ideal S524288x2x2 .f32) : FVec Ideal S524288 .f32 :=
  Host.sqrt (subf (mulf (entry00 s) (entry11 s)) (mulf (entry01 s) (entry10 s)))

/-- The square roots of the traces plus twice the roots of the determinants. -/
def denomArr (s : FVec Ideal S524288x2x2 .f32) : FVec Ideal S524288 .f32 :=
  Host.sqrt (addf (addf (entry00 s) (entry11 s))
    (mulf (broadcastInDim S524288 ![] bcast_S_S524288 (constant S_ .f32 0x40000000#32)) (rootDetArr s)))

/-- The two-by-two identity. -/
def eyeArr : FVec Ideal S2x2 .f32 :=
  uitofp .f32 (cmpi .eq (addi (iotaInDim S2x2 32 0) (broadcastInDim S2x2 ![] bcast_S_S2x2 (constantI S_ 32 0#32))) (iotaInDim S2x2 32 1))

/-- The matrices the centred activations are multiplied with. -/
def matrixArr (s : FVec Ideal S524288x2x2 .f32) : FVec Ideal S524288x2x2 .f32 :=
  Host.divf (addf s (mulf
      (broadcastInDim S524288x2x2 ![0, 1, 2] bcast_S524288x1x1_S524288x2x2_0_1_2
        (broadcastInDim S524288x1x1 ![0] bcast_S524288_S524288x1x1_0 (rootDetArr s)))
      (broadcastInDim S524288x2x2 ![0, 1, 2] bcast_S1x2x2_S524288x2x2_0_1_2
        (broadcastInDim S1x2x2 ![1, 2] bcast_S2x2_S1x2x2_1_2 eyeArr))))
    (broadcastInDim S524288x2x2 ![0, 1, 2] bcast_S524288x1x1_S524288x2x2_0_1_2
      (broadcastInDim S524288x1x1 ![0] bcast_S524288_S524288x1x1_0 (denomArr s)))

/-- The outputs, from the centred activations `xc` and the matrices `w`. -/
def outArr (xc : FVec Ideal S32x524288x2 .f32) (w : FVec Ideal S524288x2x2 .f32) (g : FVec Ideal S2x2 .f32)
    (β : FVec Ideal S2 .f32) : FVec Ideal S32x524288x2 .f32 :=
  addf (Host.dotGeneral dot_S32x524288x2_S2x2_S32x524288x2_2_1_01_0_n_n none
      (transpose S32x524288x2 [1, 0, 2]
        (Host.dotGeneral dot_S32x524288x2_S524288x2x2_S524288x32x2_2_2_0_1_1_0 none xc w)
        transposes_S524288x32x2_S32x524288x2_1_0_2) g)
    (broadcastInDim S32x524288x2 ![0, 1, 2] bcast_S1x1x2_S32x524288x2_0_1_2 (broadcastInDim S1x1x2 ![2] bcast_S2_S1x1x2_2 β))

/-! ## Each stage at an index -/

/-- The centred activations. -/
theorem centredArr_at (x : FVec Ideal S32x524288x2 .f32) (b : Fin 32) (n : Fin 524288) (l : Fin 2) :
    centredArr x (ix3 b n l) = centred (fun b => x (ix3 b n l)) b := by
  pointwise [centredArr]
  simp only [ofBits_32, zero_add]
  rfl

/-- The covariance matrices. -/
theorem covArr_at (x : FVec Ideal S32x524288x2 .f32) (n : Fin 524288) (i j : Fin 2) :
    covArr x (ix3 n i j) = referenceCov (fun b => x (ix3 b n i)) (fun b => x (ix3 b n j)) := by
  pointwise [covArr, centredArr_at]
  simp only [ofBits_31]
  rfl

theorem entry00_at (s : FVec Ideal S524288x2x2 .f32) (n : Fin 524288) : entry00 s (ix1 n) = s (ix3 n 0 0) := by pointwise [entry00]
theorem entry01_at (s : FVec Ideal S524288x2x2 .f32) (n : Fin 524288) : entry01 s (ix1 n) = s (ix3 n 0 1) := by pointwise [entry01]
theorem entry10_at (s : FVec Ideal S524288x2x2 .f32) (n : Fin 524288) : entry10 s (ix1 n) = s (ix3 n 1 0) := by pointwise [entry10]
theorem entry11_at (s : FVec Ideal S524288x2x2 .f32) (n : Fin 524288) : entry11 s (ix1 n) = s (ix3 n 1 1) := by pointwise [entry11]

/-- The identity matrix. -/
theorem eyeArr_at (i j : Fin 2) : eyeArr (ix2 i j) = if i = j then 1 else 0 := by
  pointwise [eyeArr]
  fin_cases i <;> fin_cases j <;> simp [IntOp.cmpi, IntOp.addi, FloatOps.uitofp]

/-- The roots of the determinants. -/
theorem rootDetArr_at (x : FVec Ideal S32x524288x2 .f32) (n : Fin 524288) :
    rootDetArr (covArr x) (ix1 n) = referenceRootDet (fun l b => x (ix3 b n l)) := by
  pointwise [rootDetArr, entry00_at, entry01_at, entry10_at, entry11_at, covArr_at]
  rfl

/-- The denominators. -/
theorem denomArr_at (x : FVec Ideal S32x524288x2 .f32) (n : Fin 524288) :
    denomArr (covArr x) (ix1 n) = referenceDenom (fun l b => x (ix3 b n l)) := by
  pointwise [denomArr, entry00_at, entry11_at, covArr_at, rootDetArr_at]
  simp only [ofBits_2]
  rfl

/-- The matrices. -/
theorem matrixArr_at (x : FVec Ideal S32x524288x2 .f32) (n : Fin 524288) (i j : Fin 2) :
    matrixArr (covArr x) (ix3 n i j) = referenceMatrix (fun l b => x (ix3 b n l)) i j := by
  pointwise [matrixArr, denomArr_at, covArr_at, rootDetArr_at, eyeArr_at]
  rfl

/-- The outputs. -/
theorem outArr_at (x : FVec Ideal S32x524288x2 .f32) (g : FVec Ideal S2x2 .f32) (β : FVec Ideal S2 .f32)
    (b : Fin 32) (n : Fin 524288) (k : Fin 2) :
    outArr (centredArr x) (matrixArr (covArr x)) g β (ix3 b n k)
      = referenceOut (fun l b => x (ix3 b n l)) (fun j => g (ix2 k j)) (β (ix1 k)) b := by
  pointwise [outArr, centredArr_at, matrixArr_at]
  rfl

/-! ## The result -/

/-- The position that a channel, a height and a width count. -/
def position (ch : Fin 128) (h w : Fin 64) : Fin 524288 := ⟨ch.val * 4096 + h.val * 64 + w.val, by omega⟩

/-- Splitting the positions by channel, height and width. -/
theorem split_at (y : FVec Ideal S32x524288x2 .f32) (b : Fin 32) (ch : Fin 128) (h w : Fin 64) (k : Fin 2) :
    shapeCast S32x128x64x64x2 y shapeCasts_S32x524288x2_S32x128x64x64x2 (ix5 b ch h w k) = y (ix3 b (position ch h w) k) := by
  pointwise
  rfl

/-- Merging channel, height and width into positions. -/
theorem merge_at (z : FVec Ideal S32x128x64x64x2 .f32) (b : Fin 32) (ch : Fin 128) (h w : Fin 64) (k : Fin 2) :
    shapeCast S32x524288x2 z shapeCasts_S32x128x64x64x2_S32x524288x2 (ix3 b (position ch h w) k) = z (ix5 b ch h w k) := by
  pointwise
  have ec : (⟨(position ch h w).val / 4096, by omega⟩ : Fin 128) = ch := Fin.ext (by dsimp only [position]; omega)
  have eh : (⟨(position ch h w).val / 64 % 64, by omega⟩ : Fin 64) = h := Fin.ext (by dsimp only [position]; omega)
  have ew : (⟨(position ch h w).val % 64, by omega⟩ : Fin 64) = w := Fin.ext (by dsimp only [position]; omega)
  rw [ec, eh, ew]

variable (m : (ℓ : Loc nD τ sig) → Buf (Elt Ideal) ℓ)

/-- The reference's result is the outputs, split by channel, height and width. -/
theorem res_eq (c : Dev nD) : res_main_v52 m c =
    let x := shapeCast S32x524288x2 (m ((c : Thread nD τ).loc main_arg0) : FVec Ideal S32x128x64x64x2 .f32) shapeCasts_S32x128x64x64x2_S32x524288x2
    shapeCast S32x128x64x64x2 (outArr (centredArr x) (matrixArr (covArr x)) (m ((c : Thread nD τ).loc main_arg1))
      (m ((c : Thread nD τ).loc main_arg2))) shapeCasts_S32x524288x2_S32x128x64x64x2 := rfl

/-- The reference's result at an index. -/
theorem result_at (c : Dev nD) (b : Fin 32) (ch : Fin 128) (h w : Fin 64) (k : Fin 2) :
    (res_main_v52 m c : FVec Ideal S32x128x64x64x2 .f32) (ix5 b ch h w k)
      = referenceOut (fun l b => (m ((c : Thread nD τ).loc main_arg0) : FVec Ideal S32x128x64x64x2 .f32) (ix5 b ch h w l))
          (fun j => (m ((c : Thread nD τ).loc main_arg1) : FVec Ideal S2x2 .f32) (ix2 k j))
          ((m ((c : Thread nD τ).loc main_arg2) : FVec Ideal S2 .f32) (ix1 k)) b := by
  refine (congrFun (res_eq m c) _).trans ((split_at _ b ch h w k).trans ((outArr_at _ _ _ b _ k).trans ?_))
  exact congrArg (fun col => referenceOut col _ _ b) (funext fun l => funext fun b => merge_at _ b ch h w l)

end Cert.ReferenceIdeal.Value

end
-- ==== Proof.Precondition.lean ====
/-
  The precondition, read back: when the printed predicate `finite` is all ones, every activation and every entry of
  the mixing matrix is a real number.
-/
module

public import proofs.«01_k».proof.Pre_finite
public import proofs.«01_k».proof.Proof.Gen.Pre_finite
public import proofs.«01_k».proof.Proof.Constants
public import Idealize.ShloMosaic.Lib.ReduceAll

@[expose] public section

set_option maxRecDepth 16384

noncomputable section

namespace Cert.Precondition

open Idealize.ShloMosaic Idealize.ShloMosaic.TcCoe Cert.Constants

/-- An extended real that compares below infinity in absolute value is real. -/
theorem real_of_abs_lt (x : EReal) (h : Ideal.cmp .olt (max x (-x)) (Ideal.ofBits .f32 0x7F800000#32) = 1#1) :
    ∃ r : ℝ, x = r := by
  rw [ofBits_inf] at h
  have hlt : max x (-x) < ⊤ := by
    by_contra hn
    have h0 : Ideal.cmp .olt (max x (-x)) ⊤ = 0#1 := by
      show BitVec.ofBool (decide (max x (-x) < ⊤)) = 0#1
      rw [decide_eq_false hn]; rfl
    rw [h0] at h
    exact absurd h (by decide)
  induction x with
  | bot => exact absurd hlt (by simp)
  | top => exact absurd hlt (by simp)
  | coe r => exact ⟨r, rfl⟩

open Cert.Pre_finite Cert.Pre_finite.Gen

/-- The predicate's result has one index. -/
instance : Subsingleton S_.Idx := ⟨fun _ _ => funext fun a => a.elim0⟩

/-- An array all of whose entries compare below infinity in absolute value is real. -/
theorem real_of_all {s : Shape} {axes : List (Fin s.rank)} (x : FVec Ideal s .f32)
    (hb : S_.BroadcastsInDim s (![] : Fin 0 → Fin s.rank)) (hr : s.ReducesTo axes S_) (j : S_.Idx)
    (h : Host.reduce IntOp.andi (cmpf .olt (Host.absf x) (broadcastInDim s ![] hb (constant S_ .f32 0x7F800000#32)))
      (constantI S_ 1 1#1) hr h_S_ j = 1#1) (i : s.Idx) : ∃ r : ℝ, x i = r :=
  real_of_abs_lt _ (Host.reduce_andi_all _ _ _ _ j h i)

variable (z : FVec Ideal S32x128x64x64x2 .f32) (g : FVec Ideal S2x2 .f32) (β : FVec Ideal S2 .f32)

/-- When the predicate's first result is 1, every activation is real. -/
theorem real_z (h : (fn (F := Ideal) z g β).1 = fun _ => 1#1) (i : S32x128x64x64x2.Idx) : ∃ r : ℝ, z i = r := by
  unfold fn at h
  dsimp only at h
  exact real_of_all z _ _ _ (congrFun h (fun a => a.elim0)) i

/-- When its second result is 1, every entry of the mixing matrix is real. -/
theorem real_gamma (h : (fn (F := Ideal) z g β).2 = fun _ => 1#1) (i : S2x2.Idx) : ∃ r : ℝ, g i = r := by
  unfold fn at h
  dsimp only at h
  exact real_of_all g _ _ _ (congrFun h (fun a => a.elim0)) i

end Cert.Precondition

end
-- ==== Proof.lean ====
/-
  The five claims about the tiled whitening kernel and its plain reference: each of the three programs runs, leaves
  its arguments alone and ends with every semaphore counter at zero; the idealised kernel differs from the kernel
  only by a named constant; and at exact arithmetic the idealised kernel and the reference end with equal results.

  `Proof/KernelFrame.lean` and `Proof/KernelIdealFrame.lean` hold the kernels' runs, `Proof/KernelIdealHost.lean`,
  `Proof/KernelIdealValue.lean` and `Proof/KernelIdealResult.lean` what the idealised kernel's result is at an index,
  `Proof/ReferenceIdealValue.lean` what the reference's is, and `Proof/Whitening.lean` why the two are equal.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.KernelFrame
public import proofs.«01_k».proof.Proof.KernelIdealFrame
public import proofs.«01_k».proof.Proof.KernelIdealResult
public import proofs.«01_k».proof.Proof.ReferenceIdealValue
public import proofs.«01_k».proof.Proof.Precondition
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Whitening

/-- The reference runs, leaves its arguments alone and every counter at zero. -/
theorem frame_ReferenceIdeal (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run _ _ _).mono (fun r h => ⟨fun c => (h c).2, sem_eq_zero_of_no_sems (by decide) r.2⟩) (Cert.ReferenceIdeal.Value.run m g)

/-- The rewrite that made the idealised kernel is the named constant's rule. -/
theorem preserves : Cert.preserves_Kernel_KernelIdeal :=
  IdealRules.named_const.statement Cert.KernelIdeal.κ "inv_bm1" .f32 0x3D042108#32 ((1 / 31 : ℝ) : EReal) rfl

/-- From memories that agree on the arguments, with the activations and the mixing matrix real, the two programs'
    results are the same array. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : Cert.Pre_KernelIdeal_finite m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_main_v52 m' c
      = Pipeline.afterTail₀ Cert.KernelIdeal.cfgs (Cert.KernelIdeal.Body.dats (F := Ideal) m) 0 (Cert.KernelIdeal.Gen.V0 m)
          [Cert.KernelIdeal.Gen.hostOps1] c Cert.KernelIdeal.main_v0 := by
  funext i
  rw [show i = ix5 (i 0) (i 1) (i 2) (i 3) (i 4) from eq_ix5 i]
  refine (Cert.ReferenceIdeal.Value.result_at m' c (i 0) (i 1) (i 2) (i 3) (i 4)).trans ?_
  rw [h0, h1, h2]
  refine Eq.trans ?_ (Cert.KernelIdeal.Value.result_at m c (i 0) (i 1) (i 2) (i 3) (i 4)).symm
  refine Eq.trans (kernelOut_eq_referenceOut _ _ _ _ ?_ ?_).symm ?_
  · exact fun l b => Cert.Precondition.real_z _ _ _ (hp c).1 (ix5 b (i 1) (i 2) (i 3) l)
  · exact fun k => Cert.Precondition.real_gamma _ _ _ (hp c).2 (ix2 (i 4) k)
  · refine congrArg (fun g => kernelOut _ _ g _ _) (funext fun j => ?_)
    match j with
    | ⟨0, _⟩ => rfl
    | ⟨1, _⟩ => rfl

/-- The idealised kernel and the reference end with the same result, and leave their arguments alone. -/
theorem algebraic : Cert.algebraic_KernelIdeal_ReferenceIdeal_pre_finite := by
  intro m g m' g' hp hag
  refine ⟨fun c => Pipeline.afterTail₀ Cert.KernelIdeal.cfgs (Cert.KernelIdeal.Body.dats (F := Ideal) m) 0 (Cert.KernelIdeal.Gen.V0 m)
          [Cert.KernelIdeal.Gen.hostOps1] c Cert.KernelIdeal.main_v0, ?_, ?_⟩
  · refine (θ_run _ _ _).mono (fun r h c => ⟨?_, h.2.1 c⟩)
      (θ_run_and (Cert.KernelIdeal.Body.run_post (F := Ideal) m g) (Cert.KernelIdeal.Body.frame (F := Ideal) m g))
    exact (h.1 c).2 Cert.KernelIdeal.main_v0 (Pipeline.mem_restRefs_of _ (by decide) (by decide))
  · refine (θ_run _ _ _).mono (fun r h c => ⟨(h c).1.trans ?_, (h c).2⟩) (Cert.ReferenceIdeal.Value.run m' g')
    exact results_agree m m' hp c (hag c).1 (hag c).2.1 (hag c).2.2

/-- The five claims. -/
theorem claim : Cert.Claim :=
  ⟨Cert.Kernel.Gen.facts, Cert.KernelIdeal.Gen.facts, Cert.ReferenceIdeal.Gen.facts, Cert.Pre_finite.Gen.facts,
    fun m g _ => Cert.Kernel.Body.frame m g, fun m g _ => Cert.KernelIdeal.Body.frame m g,
    fun m g _ => Cert.KernelIdeal.Body.frame m g, fun m g _ => frame_ReferenceIdeal m g,
    fun m g _ => frame_ReferenceIdeal m g, preserves, algebraic⟩

end Cert.Proof

end
